-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S1x64 : Shape := ⟨2, ![1, 64]⟩
abbrev S10000x64 : Shape := ⟨2, ![10000, 64]⟩
abbrev S400x10000 : Shape := ⟨2, ![400, 10000]⟩
abbrev S400x128 : Shape := ⟨2, ![400, 128]⟩
abbrev S400x64 : Shape := ⟨2, ![400, 64]⟩
abbrev S400 : Shape := ⟨1, ![400]⟩
abbrev S400x1 : Shape := ⟨2, ![400, 1]⟩

abbrev nBuf : Space → Nat
  | .hbm => 21
  | .vmem => 28
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S128x64, .f32⟩
  | .hbm, ⟨9, _⟩ => ⟨S64, .f32⟩
  | .hbm, ⟨10, _⟩ => ⟨S128x64, .f32⟩
  | .hbm, ⟨11, _⟩ => ⟨S64, .f32⟩
  | .hbm, ⟨12, _⟩ => ⟨S1x64, .f32⟩
  | .hbm, ⟨13, _⟩ => ⟨S1x64, .f32⟩
  | .hbm, ⟨14, _⟩ => ⟨S1x64, .f32⟩
  | .hbm, ⟨15, _⟩ => ⟨S1x64, .f32⟩
  | .hbm, ⟨16, _⟩ => ⟨S1x64, .f32⟩
  | .hbm, ⟨17, _⟩ => ⟨S10000x128, .f32⟩
  | .hbm, ⟨18, _⟩ => ⟨S10000x128, .fp8e4m3⟩
  | .hbm, ⟨19, _⟩ => ⟨S10000x10000, .fp8e4m3⟩
  | .hbm, ⟨20, _⟩ => ⟨S10000x64, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S400x128, .f32⟩
  | .local _ .vmem, ⟨4, _⟩ => ⟨S400x128, .f32⟩
  | .local _ .vmem, ⟨5, _⟩ => ⟨S128x64, .f32⟩
  | .local _ .vmem, ⟨6, _⟩ => ⟨S1x64, .f32⟩
  | .local _ .vmem, ⟨7, _⟩ => ⟨S128x64, .f32⟩
  | .local _ .vmem, ⟨8, _⟩ => ⟨S1x64, .f32⟩
  | .local _ .vmem, ⟨9, _⟩ => ⟨S400x128, .f32⟩
  | .local _ .vmem, ⟨10, _⟩ => ⟨S400x128, .f32⟩
  | .local _ .vmem, ⟨11, _⟩ => ⟨S400x128, .fp8e4m3⟩
  | .local _ .vmem, ⟨12, _⟩ => ⟨S400x128, .fp8e4m3⟩
  | .local _ .vmem, ⟨13, _⟩ => ⟨S400x10000, .fp8e4m3⟩
  | .local _ .vmem, ⟨14, _⟩ => ⟨S400x10000, .fp8e4m3⟩
  | .local _ .vmem, ⟨15, _⟩ => ⟨S400x10000, .fp8e4m3⟩
  | .local _ .vmem, ⟨16, _⟩ => ⟨S400x10000, .fp8e4m3⟩
  | .local _ .vmem, ⟨17, _⟩ => ⟨S10000x128, .fp8e4m3⟩
  | .local _ .vmem, ⟨18, _⟩ => ⟨S400x128, .f32⟩
  | .local _ .vmem, ⟨19, _⟩ => ⟨S400x128, .f32⟩
  | .local _ .vmem, ⟨20, _⟩ => ⟨S128x64, .f32⟩
  | .local _ .vmem, ⟨21, _⟩ => ⟨S1x64, .f32⟩
  | .local _ .vmem, ⟨22, _⟩ => ⟨S128x64, .f32⟩
  | .local _ .vmem, ⟨23, _⟩ => ⟨S1x64, .f32⟩
  | .local _ .vmem, ⟨24, _⟩ => ⟨S128x64, .f32⟩
  | .local _ .vmem, ⟨25, _⟩ => ⟨S1x64, .f32⟩
  | .local _ .vmem, ⟨26, _⟩ => ⟨S400x64, .f32⟩
  | .local _ .vmem, ⟨27, _⟩ => ⟨S400x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5_0 : Ref sig .tc := ⟨.hbm, 17, rfl⟩
abbrev main_call0_v5_1 : Ref sig .tc := ⟨.hbm, 18, rfl⟩
abbrev main_call0_v5_2 : Ref sig .tc := ⟨.hbm, 19, rfl⟩
abbrev main_v0 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg9_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem9_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S400x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S400x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S400x10000 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .fp8e4m3 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S400x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S10000x64 : Shape := ⟨2, ![10000, 64]⟩
abbrev S1x64 : Shape := ⟨2, ![1, 64]⟩
abbrev S_ : Shape := ⟨0, ![]⟩
abbrev S10000 : Shape := ⟨1, ![10000]⟩
abbrev S10000x1 : Shape := ⟨2, ![10000, 1]⟩

abbrev nBuf : Space → Nat
  | .hbm => 62
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S128x64, .f32⟩
  | .hbm, ⟨9, _⟩ => ⟨S64, .f32⟩
  | .hbm, ⟨10, _⟩ => ⟨S128x64, .f32⟩
  | .hbm, ⟨11, _⟩ => ⟨S64, .f32⟩
  | .hbm, ⟨12, _⟩ => ⟨S10000x64, .f32⟩
  | .hbm, ⟨13, _⟩ => ⟨S1x64, .f32⟩
  | .hbm, ⟨14, _⟩ => ⟨S10000x64, .f32⟩
  | .hbm, ⟨15, _⟩ => ⟨S10000x64, .f32⟩
  | .hbm, ⟨16, _⟩ => ⟨S10000x128, .f32⟩
  | .hbm, ⟨17, _⟩ => ⟨S10000x64, .f32⟩
  | .hbm, ⟨18, _⟩ => ⟨S1x64, .f32⟩
  | .hbm, ⟨19, _⟩ => ⟨S10000x64, .f32⟩
  | .hbm, ⟨20, _⟩ => ⟨S10000x64, .f32⟩
  | .hbm, ⟨21, _⟩ => ⟨S10000x128, .f32⟩
  | .hbm, ⟨22, _⟩ => ⟨S_, .f32⟩
  | .hbm, ⟨23, _⟩ => ⟨S10000x128, .f32⟩
  | .hbm, ⟨24, _⟩ => ⟨S10000x128, .f32⟩
  | .hbm, ⟨25, _⟩ => ⟨S10000x128, .f32⟩
  | .hbm, ⟨26, _⟩ => ⟨S_, .f32⟩
  | .hbm, ⟨27, _⟩ => ⟨S10000, .f32⟩
  | .hbm, ⟨28, _⟩ => ⟨S10000x1, .f32⟩
  | .hbm, ⟨29, _⟩ => ⟨S10000x1, .f32⟩
  | .hbm, ⟨30, _⟩ => ⟨S_, .f32⟩
  | .hbm, ⟨31, _⟩ => ⟨S10000x1, .f32⟩
  | .hbm, ⟨32, _⟩ => ⟨S10000x1, .f32⟩
  | .hbm, ⟨33, _⟩ => ⟨S10000x128, .f32⟩
  | .hbm, ⟨34, _⟩ => ⟨S10000x128, .f32⟩
  | .hbm, ⟨35, _⟩ => ⟨S10000x64, .f32⟩
  | .hbm, ⟨36, _⟩ => ⟨S1x64, .f32⟩
  | .hbm, ⟨37, _⟩ => ⟨S10000x64, .f32⟩
  | .hbm, ⟨38, _⟩ => ⟨S10000x64, .f32⟩
  | .hbm, ⟨39, _⟩ => ⟨S10000x128, .f32⟩
  | .hbm, ⟨40, _⟩ => ⟨S10000x64, .f32⟩
  | .hbm, ⟨41, _⟩ => ⟨S1x64, .f32⟩
  | .hbm, ⟨42, _⟩ => ⟨S10000x64, .f32⟩
  | .hbm, ⟨43, _⟩ => ⟨S10000x64, .f32⟩
  | .hbm, ⟨44, _⟩ => ⟨S10000x128, .f32⟩
  | .hbm, ⟨45, _⟩ => ⟨S_, .f32⟩
  | .hbm, ⟨46, _⟩ => ⟨S10000x128, .f32⟩
  | .hbm, ⟨47, _⟩ => ⟨S10000x128, .f32⟩
  | .hbm, ⟨48, _⟩ => ⟨S10000x128, .f32⟩
  | .hbm, ⟨49, _⟩ => ⟨S_, .f32⟩
  | .hbm, ⟨50, _⟩ => ⟨S10000, .f32⟩
  | .hbm, ⟨51, _⟩ => ⟨S10000x1, .f32⟩
  | .hbm, ⟨52, _⟩ => ⟨S10000x1, .f32⟩
  | .hbm, ⟨53, _⟩ => ⟨S_, .f32⟩
  | .hbm, ⟨54, _⟩ => ⟨S10000x1, .f32⟩
  | .hbm, ⟨55, _⟩ => ⟨S10000x1, .f32⟩
  | .hbm, ⟨56, _⟩ => ⟨S10000x128, .f32⟩
  | .hbm, ⟨57, _⟩ => ⟨S10000x128, .f32⟩
  | .hbm, ⟨58, _⟩ => ⟨S10000x64, .f32⟩
  | .hbm, ⟨59, _⟩ => ⟨S1x64, .f32⟩
  | .hbm, ⟨60, _⟩ => ⟨S10000x64, .f32⟩
  | .hbm, ⟨61, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_call0_cst : Ref sig .tc := ⟨.hbm, 22, rfl⟩
abbrev main_call0_v0 : Ref sig .tc := ⟨.hbm, 23, rfl⟩
abbrev main_v10 : Ref sig .tc := ⟨.hbm, 24, rfl⟩
abbrev main_call1_v0 : Ref sig .tc := ⟨.hbm, 25, rfl⟩
abbrev main_call1_cst : Ref sig .tc := ⟨.hbm, 26, rfl⟩
abbrev main_call1_v1 : Ref sig .tc := ⟨.hbm, 27, rfl⟩
abbrev main_call1_v2 : Ref sig .tc := ⟨.hbm, 28, rfl⟩
abbrev main_v11 : Ref sig .tc := ⟨.hbm, 29, rfl⟩
abbrev main_cst : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_call2_cst : Ref sig .tc := ⟨.hbm, 45, rfl⟩
abbrev main_call2_v0 : Ref sig .tc := ⟨.hbm, 46, rfl⟩
abbrev main_v26 : Ref sig .tc := ⟨.hbm, 47, rfl⟩
abbrev main_call3_v0 : Ref sig .tc := ⟨.hbm, 48, rfl⟩
abbrev main_call3_cst : Ref sig .tc := ⟨.hbm, 49, rfl⟩
abbrev main_call3_v1 : Ref sig .tc := ⟨.hbm, 50, rfl⟩
abbrev main_call3_v2 : Ref sig .tc := ⟨.hbm, 51, rfl⟩
abbrev main_v27 : Ref sig .tc := ⟨.hbm, 52, rfl⟩
abbrev main_cst_0 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩

abbrev nD : Nat := 1
abbrev τ : Topo := Topo.v7x

variable {F : FTy → Type} [FloatOps F]
-- ==== Proof.Spec.lean ====
/-
  The mathematics the kernel and the reference share, one row at a time, over the extended reals, and the one
  algebraic fact that separates them: scaling the two factors of the neighbour sum by 65536 and by 64 and the
  weights that follow by 2^-22 changes nothing.

  A row of a hidden layer is made from the node's own row `h` and the weighted sum `g` of all rows:
  `sageRow h g = unitRow (relu (h · Ws + bs ‖ g · Wn + bn))`, `‖` the concatenation of two halves of 64 entries.
-/
module

public import Idealize.ShloMosaic.PureOps.Ideal
public import Idealize.ShloMosaic.Lib.IdealHost
public import Idealize.ShloMosaic.Lib.KernelVsHost.DropoutScale

@[expose] public section

noncomputable section

open Idealize.ShloMosaic

namespace Cert.Sage

/-- The floor under a row's norm, the single-precision word nearest to 1e-12 (both programs print the same word). -/
def floorNorm : EReal := Ideal.ofBits .f32 0x2B8CBCCC#32

/-- A row times a 128 × 64 matrix, plus a bias. -/
def affineRow (v : Fin 128 → EReal) (W : Fin 128 → Fin 64 → EReal) (b : Fin 64 → EReal) (j : Fin 64) : EReal :=
  (∑ l, v l * W l j) + b j

/-- The weighted sum of the rows of `H`, the weights a row of the adjacency matrix. -/
def sumRows (a : Fin 10000 → EReal) (H : Fin 10000 → Fin 128 → EReal) (l : Fin 128) : EReal :=
  ∑ k, a k * H k l

/-- Two rows of 64 entries, one after the other, negative entries replaced by zero. -/
def reluPair (p q : Fin 64 → EReal) (j : Fin 128) : EReal :=
  max (if h : (j : ℕ) < 64 then p ⟨j, h⟩ else q ⟨j - 64, by omega⟩) 0

/-- A row divided by its Euclidean norm, the norm kept above `floorNorm`. -/
def unitRow (z : Fin 128 → EReal) (j : Fin 128) : EReal :=
  Ideal.div (z j) (max (Ideal.sqrt (∑ k, z k * z k)) floorNorm)

/-- One row of a hidden layer, from the node's own row `h` and its neighbour sum `g`. -/
def sageRow (h g : Fin 128 → EReal) (Ws : Fin 128 → Fin 64 → EReal) (bs : Fin 64 → EReal)
    (Wn : Fin 128 → Fin 64 → EReal) (bn : Fin 64 → EReal) : Fin 128 → EReal :=
  unitRow (reluPair (affineRow h Ws bs) (affineRow g Wn bn))

/-- A hidden layer: every node's row from its own row and its neighbour sum. -/
def sageLayer (A : Fin 10000 → Fin 10000 → EReal) (H : Fin 10000 → Fin 128 → EReal) (Ws : Fin 128 → Fin 64 → EReal)
    (bs : Fin 64 → EReal) (Wn : Fin 128 → Fin 64 → EReal) (bn : Fin 64 → EReal) (r : Fin 10000) : Fin 128 → EReal :=
  sageRow (H r) (sumRows (A r) H) Ws bs Wn bn

/-- The whole network: two hidden layers, then a last product with a bias. -/
def sageNet (x : Fin 10000 → Fin 128 → EReal) (A : Fin 10000 → Fin 10000 → EReal)
    (W1s : Fin 128 → Fin 64 → EReal) (b1s : Fin 64 → EReal) (W1n : Fin 128 → Fin 64 → EReal) (b1n : Fin 64 → EReal)
    (W2s : Fin 128 → Fin 64 → EReal) (b2s : Fin 64 → EReal) (W2n : Fin 128 → Fin 64 → EReal) (b2n : Fin 64 → EReal)
    (Wf : Fin 128 → Fin 64 → EReal) (bf : Fin 64 → EReal) (r : Fin 10000) : Fin 64 → EReal :=
  affineRow (sageLayer A (sageLayer A x W1s b1s W1n b1n) W2s b2s W2n b2n r) Wf bf

/-! ## The scaling -/

/-- The word 0x42800000 is 64. -/
theorem ofBits_64 : Ideal.ofBits .f32 0x42800000#32 = ((64 : ℝ) : EReal) := by
  simp [Ideal.ofBits, Ideal.ieee, -EReal.coe_mul]; norm_num

/-- The word 0x34800000 is 2^-22. -/
theorem ofBits_unscale : Ideal.ofBits .f32 0x34800000#32 = ((1 / 4194304 : ℝ) : EReal) := by
  simp [Ideal.ofBits, Ideal.ieee, -EReal.coe_mul]; norm_num

/-- A nonnegative real factor moves out of a finite sum of extended reals, whatever infinities it holds. -/
theorem sum_mul_real {ι : Type*} (s : Finset ι) (f : ι → EReal) {c : ℝ} (hc : 0 ≤ c) :
    ∑ i ∈ s, f i * (c : EReal) = (∑ i ∈ s, f i) * (c : EReal) := by
  classical
  induction s using Finset.induction_on with
  | empty => simp
  | insert a s ha ih =>
    rw [Finset.sum_insert ha, Finset.sum_insert ha, ih,
      EReal.right_distrib_of_nonneg_of_ne_top (by exact_mod_cast hc) (EReal.coe_ne_top c)]

/-- The neighbour sum of scaled weights over scaled rows is the neighbour sum, scaled by both. -/
theorem sumRows_scaled (a : Fin 10000 → EReal) (H : Fin 10000 → Fin 128 → EReal) {c d : ℝ} (hc : 0 ≤ c) (hd : 0 ≤ d)
    (l : Fin 128) :
    sumRows (fun k => a k * (c : EReal)) (fun k l => H k l * (d : EReal)) l = sumRows a H l * ((c * d : ℝ) : EReal) := by
  unfold sumRows
  rw [← sum_mul_real _ _ (mul_nonneg hc hd)]
  refine Finset.sum_congr rfl fun k _ => ?_
  rw [EReal.coe_mul, mul_mul_mul_comm]

/-- THE SCALING DROPS OUT: weights of the neighbour sum scaled by 65536 and its rows by 64, the matrix it then meets
    scaled by 2^-22, make the same row as nothing scaled. -/
theorem affineRow_scaled (a : Fin 10000 → EReal) (H : Fin 10000 → Fin 128 → EReal) (W : Fin 128 → Fin 64 → EReal)
    (b : Fin 64 → EReal) :
    affineRow (sumRows (fun k => a k * Ideal.ofBits .f32 0x47800000#32) (fun k l => H k l * Ideal.ofBits .f32 0x42800000#32))
        (fun l j => W l j * Ideal.ofBits .f32 0x34800000#32) b
      = affineRow (sumRows a H) W b := by
  funext j
  unfold affineRow
  refine congrArg (· + b j) (Finset.sum_congr rfl fun l _ => ?_)
  rw [DropoutScale.ofBits_65536_f32, ofBits_64, ofBits_unscale, sumRows_scaled a H (by norm_num) (by norm_num), mul_mul_mul_comm, ← EReal.coe_mul]
  norm_num

end Cert.Sage

end
-- ==== Proof.Block.lean ====
/-
  What one block of 400 rows computes in each of the two passes, entry by entry, in the row mathematics of Spec.lean.

  Both passes share three steps, named here once: `affine` (rows times a matrix, plus a bias row), `pair` (two halves
  side by side, negative entries replaced by zero) and `unit` (each row divided by its norm).
-/
module

public import proofs.«01_k».proof.Proof.Spec
public import proofs.«01_k».proof.Proof.Gen.KernelIdeal.Skeleton
public import Idealize.ShloMosaic.Lib.Pointwise

@[expose] public section

set_option maxRecDepth 16384

noncomputable section

open Idealize.ShloMosaic

namespace Cert.Sage.Block

open Cert.KernelIdeal Cert.KernelIdeal.Gen

/-! ## The three shared steps on a block -/

/-- 400 rows times a 128 × 64 matrix, plus a bias row. -/
def affine (v : FVec Ideal S400x128 .f32) (W : FVec Ideal S128x64 .f32) (b : FVec Ideal S1x64 .f32) : FVec Ideal S400x64 .f32 :=
  addf (matmul dot_S400x128_S128x64_S400x64_1_0_0_1_n_n none v W (constant S400x64 .f32 0x00000000#32))
    (broadcastTo S400x64 (shapeCast S1x64 b shapeCasts_S1x64_S1x64) broadcasts_S1x64_S400x64)

/-- Two halves side by side, negative entries replaced by zero. -/
def pair (p q : FVec Ideal S400x64 .f32) : FVec Ideal S400x128 .f32 :=
  maximumf (concatenate S400x128 1 [⟨S400x64, p⟩, ⟨S400x64, q⟩] concatenates_S400x64_S400x64_S400x128_d1)
    (broadcast S400x128 (Scalar.ofBits .f32 0x00000000#32))

/-- Each row divided by its norm, the norm kept above the floor. -/
def unit (z : FVec Ideal S400x128 .f32) : FVec Ideal S400x128 .f32 :=
  divf z (broadcastTo S400x128
    (maximumf (sqrt (shapeCast S400x1 (multiReduction .add [1] S400 (mulf z z) 0x00000000#32 reduces_S400x128_S400 (.inl rfl) rfl)
        shapeCasts_S400_S400x1))
      (broadcast S400x1 (Scalar.ofBits .f32 0x2B8CBCCC#32))) broadcasts_S400x1_S400x128)

/-- An entry of `affine`. -/
theorem affine_apply (v : FVec Ideal S400x128 .f32) (W : FVec Ideal S128x64 .f32) (b : FVec Ideal S1x64 .f32)
    (r : Fin 400) (j : Fin 64) :
    affine v W b (ix2 r j) = affineRow (fun l => v (ix2 r l)) (fun l j => W (ix2 l j)) (fun j => b (ix2 0 j)) j := by
  pointwise [affine, affineRow]

/-- An entry of `pair`. -/
theorem pair_apply (p q : FVec Ideal S400x64 .f32) (r : Fin 400) (j : Fin 128) :
    pair p q (ix2 r j) = reluPair (fun j => p (ix2 r j)) (fun j => q (ix2 r j)) j := by
  pointwise [pair, reluPair]

/-- An entry of `unit`. -/
theorem unit_apply (z : FVec Ideal S400x128 .f32) (r : Fin 400) (j : Fin 128) :
    unit z (ix2 r j) = unitRow (fun j => z (ix2 r j)) j := by
  pointwise [unit, unitRow, floorNorm]

/-! ## Pass 1 -/

/-- The neighbour sums of a block of rows: 400 rows of the adjacency matrix times all rows. -/
theorem sums_apply {φ ψ : FTy} (a : FVec Ideal S400x10000 φ) (H : FVec Ideal S10000x128 ψ) (r : Fin 400) (l : Fin 128) :
    matmul dot_S400x10000_S10000x128_S400x128_1_0_0_1_n_n none a H (constant S400x128 .f32 0x00000000#32) (ix2 r l)
      = sumRows (fun k => a (ix2 r k)) (fun k l => H (ix2 k l)) l := by
  pointwise [sumRows]

/-- The first pass's block of hidden rows. -/
theorem pass1_apply (a : Vec Ideal S400x10000 .f32) (x : Vec Ideal S10000x128 .f32) (h : Vec Ideal S400x128 .f32)
    (Ws : Vec Ideal S128x64 .f32) (bs : Vec Ideal S1x64 .f32) (Wn : Vec Ideal S128x64 .f32) (bn : Vec Ideal S1x64 .f32)
    (r : Fin 400) (j : Fin 128) :
    k0_pay3 a x h Ws bs Wn bn (ix2 r j)
      = sageRow (fun l => h (ix2 r l)) (sumRows (fun k => a (ix2 r k)) (fun k l => x (ix2 k l)))
          (fun l j => Ws (ix2 l j)) (fun j => bs (ix2 0 j)) (fun l j => Wn (ix2 l j)) (fun j => bn (ix2 0 j)) j := by
  rw [show k0_pay3 a x h Ws bs Wn bn = unit (pair (affine h Ws bs) (affine
      (matmul (φ₁ := .bf16) (φ₂ := .bf16) dot_S400x10000_S10000x128_S400x128_1_0_0_1_n_n none
        (truncf .bf16 (a : FVec Ideal S400x10000 .f32) bitsLt_bf16_f32) (truncf .bf16 (x : FVec Ideal S10000x128 .f32) bitsLt_bf16_f32)
        (constant S400x128 .f32 0x00000000#32)) Wn bn)) from rfl]
  simp only [unit_apply, pair_apply, affine_apply, sums_apply, sageRow]
  rfl

/-- The first pass stores its hidden rows a second time, scaled by 64. -/
theorem pass1_scaled_apply (h : FVec Ideal S400x128 .f32) (i : S400x128.Idx) :
    k0_pay1 h i = h i * Ideal.ofBits .f32 0x42800000#32 := by
  pointwise [k0_pay1]

/-- The first pass stores the adjacency rows, scaled by 65536. -/
theorem pass1_adj_apply (a : Vec Ideal S400x10000 .f32) (i : S400x10000.Idx) :
    k0_pay2 a i = a i * Ideal.ofBits .f32 0x47800000#32 := by
  pointwise [k0_pay2]

/-! ## Pass 2 -/

/-- The second pass's block of the result: the weights of the neighbour sum come scaled, and are scaled back in the
    matrix they meet. -/
theorem pass2_apply (a : Vec Ideal S400x10000 .fp8e4m3) (H : Vec Ideal S10000x128 .fp8e4m3) (h : Vec Ideal S400x128 .f32)
    (Ws : Vec Ideal S128x64 .f32) (bs : Vec Ideal S1x64 .f32) (Wn : Vec Ideal S128x64 .f32) (bn : Vec Ideal S1x64 .f32)
    (Wf : Vec Ideal S128x64 .f32) (bf : Vec Ideal S1x64 .f32) (r : Fin 400) (j : Fin 64) :
    k1_pay1 (k1_pay2 a H h Ws bs Wn bn Wf) bf (ix2 r j)
      = affineRow (sageRow (fun l => h (ix2 r l)) (sumRows (fun k => a (ix2 r k)) (fun k l => H (ix2 k l)))
            (fun l j => Ws (ix2 l j)) (fun j => bs (ix2 0 j))
            (fun l j => Wn (ix2 l j) * Ideal.ofBits .f32 0x34800000#32) (fun j => bn (ix2 0 j)))
          (fun l j => Wf (ix2 l j)) (fun j => bf (ix2 0 j)) j := by
  rw [show k1_pay1 (k1_pay2 a H h Ws bs Wn bn Wf) bf = affine (unit (pair
        (affine (shapeCast S400x128 (h : FVec Ideal S400x128 .f32) shapeCasts_S400x128_S400x128) Ws bs)
        (affine (matmul (φ₁ := .fp8e4m3) (φ₂ := .fp8e4m3) dot_S400x10000_S10000x128_S400x128_1_0_0_1_n_n none
            (shapeCast S400x10000 (a : FVec Ideal S400x10000 .fp8e4m3) shapeCasts_S400x10000_S400x10000)
            (shapeCast S10000x128 (H : FVec Ideal S10000x128 .fp8e4m3) shapeCasts_S10000x128_S10000x128)
            (constant S400x128 .f32 0x00000000#32))
          (mulf (Wn : FVec Ideal S128x64 .f32) (broadcast S128x64 (Scalar.ofBits .f32 0x34800000#32))) bn))) Wf bf from rfl]
  simp only [shapeCast_self, unit_apply, pair_apply, affine_apply, sums_apply, sageRow]
  rfl

end Cert.Sage.Block

end
-- ==== Proof.Arrays.lean ====
/-
  What the three arrays the first pass writes hold at the end of it, as functions of what the arrays hold before the
  pass. The pass writes 25 blocks of 400 rows, which tile the 10000 rows.
-/
module

public import proofs.«01_k».proof.Proof.Block
public import proofs.«01_k».proof.Proof.Gen.KernelIdeal.Frame
public import Idealize.ShloMosaic.Lib.Pipeline.ValueKit.Point

@[expose] public section

set_option maxRecDepth 16384

noncomputable section

open Idealize.ShloMosaic Idealize.ShloMosaic.TcCoe
open Idealize.ShloMosaic.Pipeline (Dat)

namespace Cert.Sage.Arrays

open Cert.KernelIdeal Cert.KernelIdeal.Gen

variable (V : (c : Dev nD) → (b : Ref sig .tc) → Buf (Elt Ideal) ((c : Thread nD τ).loc b))

/-! ## Where a block's rows lie -/

/-- Row `r` of block `t`, among all rows. -/
def row (t : Fin cfg0.N) (r : Fin 400) : Fin 10000 :=
  ⟨t.val * 400 + r.val, by have := t.isLt; have hN : cfg0.N = 25 := N_0; omega⟩

/-- The row-blocked windows are at block `t` at point `t`. -/
theorem idx0_0 (t : Fin cfg0.N) : win0_0.index t = ![t.val, 0] :=
  (by decide +kernel : ∀ t : Fin grid0.N, win0_0.index t = ![t.val, 0]) t
/-- The same, for the node's own rows. -/
theorem idx0_2 (t : Fin cfg0.N) : win0_2.index t = ![t.val, 0] :=
  (by decide +kernel : ∀ t : Fin grid0.N, win0_2.index t = ![t.val, 0]) t
/-- The same, for the hidden rows written. -/
theorem idx0_7 (t : Fin cfg0.N) : win0_7.index t = ![t.val, 0] :=
  (by decide +kernel : ∀ t : Fin grid0.N, win0_7.index t = ![t.val, 0]) t
/-- The same, for the scaled hidden rows written. -/
theorem idx0_8 (t : Fin cfg0.N) : win0_8.index t = ![t.val, 0] :=
  (by decide +kernel : ∀ t : Fin grid0.N, win0_8.index t = ![t.val, 0]) t
/-- The same, for the scaled adjacency rows written. -/
theorem idx0_9 (t : Fin cfg0.N) : win0_9.index t = ![t.val, 0] :=
  (by decide +kernel : ∀ t : Fin grid0.N, win0_9.index t = ![t.val, 0]) t
/-- The windows on a whole array stay at its first and only block. -/
theorem idx0_whole (t : Fin cfg0.N) : win0_1.index t = ![0, 0] ∧ win0_3.index t = ![0, 0] ∧ win0_4.index t = ![0, 0]
    ∧ win0_5.index t = ![0, 0] ∧ win0_6.index t = ![0, 0] :=
  (by decide +kernel : ∀ t : Fin grid0.N, win0_1.index t = ![0, 0] ∧ win0_3.index t = ![0, 0] ∧ win0_4.index t = ![0, 0]
    ∧ win0_5.index t = ![0, 0] ∧ win0_6.index t = ![0, 0]) t

/-- A load or store at the origin is of the whole buffer. -/
theorem origin : (![0, 0] : Fin 2 → Nat) = fun _ => 0 := funext fun a => by fin_cases a <;> rfl

/-! ## The blocks the first pass reads -/

/-- The adjacency block: 400 rows of the adjacency matrix. -/
theorem blk_adj (c : Dev nD) (t : Fin cfg0.N) (r : Fin 400) (k : Fin 10000) :
    iblk0 V c 0 t (ix2 r k) = V c main_arg1 (ix2 (row t r) k) := by
  blk_ext! [iblk0, row, idx0_0 t]
/-- The block of the nodes' own rows. -/
theorem blk_own (c : Dev nD) (t : Fin cfg0.N) (r : Fin 400) (l : Fin 128) :
    iblk0 V c 2 t (ix2 r l) = V c main_arg0 (ix2 (row t r) l) := by
  blk_ext! [iblk0, row, idx0_2 t]
/-- All rows. -/
theorem blk_all (c : Dev nD) (t : Fin cfg0.N) (k : Fin 10000) (l : Fin 128) :
    iblk0 V c 1 t (ix2 k l) = V c main_arg0 (ix2 k l) := by
  blk_ext! [iblk0, (idx0_whole t).1]
/-- The matrix the own rows meet. -/
theorem blk_Ws (c : Dev nD) (t : Fin cfg0.N) (l : Fin 128) (j : Fin 64) :
    iblk0 V c 3 t (ix2 l j) = V c main_arg2 (ix2 l j) := by
  blk_ext! [iblk0, (idx0_whole t).2.1]
/-- Its bias row. -/
theorem blk_bs (c : Dev nD) (t : Fin cfg0.N) (j : Fin 64) :
    iblk0 V c 4 t (ix2 0 j) = V c main_call0_v0 (ix2 0 j) := by
  blk_ext! [iblk0, (idx0_whole t).2.2.1]
/-- The matrix the neighbour sums meet. -/
theorem blk_Wn (c : Dev nD) (t : Fin cfg0.N) (l : Fin 128) (j : Fin 64) :
    iblk0 V c 5 t (ix2 l j) = V c main_arg4 (ix2 l j) := by
  blk_ext! [iblk0, (idx0_whole t).2.2.2.1]
/-- Its bias row. -/
theorem blk_bn (c : Dev nD) (t : Fin cfg0.N) (j : Fin 64) :
    iblk0 V c 6 t (ix2 0 j) = V c main_call0_v1 (ix2 0 j) := by
  blk_ext! [iblk0, (idx0_whole t).2.2.2.2]

/-! ## The arrays the first pass writes -/

/-- Row `r` of the adjacency matrix, from the arrays before the pass. -/
def adjRow (c : Dev nD) : Fin 10000 → Fin 10000 → EReal := fun r k => V c main_arg1 (ix2 r k)

/-- Row `r` of the first pass's hidden rows, from the arrays before the pass. -/
def hiddenRow (c : Dev nD) : Fin 10000 → Fin 128 → EReal :=
  sageLayer (adjRow V c) (fun k l => V c main_arg0 (ix2 k l))
    (fun l j => V c main_arg2 (ix2 l j)) (fun j => V c main_call0_v0 (ix2 0 j))
    (fun l j => V c main_arg4 (ix2 l j)) (fun j => V c main_call0_v1 (ix2 0 j))

/-- The first pass's block of hidden rows at point `t`. -/
theorem hidden_blk (c : Dev nD) (t : Fin cfg0.N) (r : Fin 400) (j : Fin 128) :
    k0_pay4 (iblk0 V c 0 t) (iblk0 V c 1 t) (iblk0 V c 2 t) (iblk0 V c 3 t) (iblk0 V c 4 t) (iblk0 V c 5 t)
      (iblk0 V c 6 t) (ix2 r j) = hiddenRow V c (row t r) j := by
  unfold k0_pay4
  rw [View.ld_unit_zero origin, View.ld_unit_zero origin, View.ld_unit_zero origin, View.ld_unit_zero origin,
    View.ld_unit_zero origin, View.ld_unit_zero origin, View.ld_unit_zero origin]
  rw [Block.pass1_apply]
  simp only [blk_adj, blk_own, blk_all, blk_Ws, blk_bs, blk_Wn, blk_bn, hiddenRow, sageLayer]
  rfl

/-- The hidden rows, as written. -/
theorem hidden_arr (c : Dev nD) :
    (dat0 V c).arrAt 7 cfg0.N = fun i : S10000x128.Idx => hiddenRow V c (i 0) (i 1) := by
  refine (dat0 V c).arrAt_eq_of_covers 7 _ (by decide +kernel) fun t hf y => ?_
  obtain ⟨r, j, rfl⟩ : ∃ (r : Fin 400) (j : Fin 128), y = ix2 r j := ⟨y 0, y 1, eq_ix2 y⟩
  have e : ((cfg0.win 7).blk t).view.emb (ix2 r j) = ix2 (row t r) j := by blk_ext [row, idx0_7 t]
  rw [e]
  blk_simp
  rw [after0_7]
  frame_out
  exact hidden_blk V c t r j

/-- The hidden rows scaled by 64, as written. -/
theorem hidden_scaled_arr (c : Dev nD) :
    (dat0 V c).arrAt 8 cfg0.N
      = fun i : S10000x128.Idx => hiddenRow V c (i 0) (i 1) * Ideal.ofBits .f32 0x42800000#32 := by
  refine (dat0 V c).arrAt_eq_of_covers 8 _ (by decide +kernel) fun t hf y => ?_
  obtain ⟨r, j, rfl⟩ : ∃ (r : Fin 400) (j : Fin 128), y = ix2 r j := ⟨y 0, y 1, eq_ix2 y⟩
  have e : ((cfg0.win 8).blk t).view.emb (ix2 r j) = ix2 (row t r) j := by blk_ext [row, idx0_8 t]
  rw [e]
  blk_simp
  rw [after0_8]
  frame_out
  exact (Block.pass1_scaled_apply _ _).trans (congrArg (· * _) (hidden_blk V c t r j))

/-- The adjacency matrix scaled by 65536, as written. -/
theorem adj_scaled_arr (c : Dev nD) :
    (dat0 V c).arrAt 9 cfg0.N
      = fun i : S10000x10000.Idx => adjRow V c (i 0) (i 1) * Ideal.ofBits .f32 0x47800000#32 := by
  refine (dat0 V c).arrAt_eq_of_covers 9 _ (by decide +kernel) fun t hf y => ?_
  obtain ⟨r, k, rfl⟩ : ∃ (r : Fin 400) (k : Fin 10000), y = ix2 r k := ⟨y 0, y 1, eq_ix2 y⟩
  have e : ((cfg0.win 9).blk t).view.emb (ix2 r k) = ix2 (row t r) k := by blk_ext [row, idx0_9 t]
  rw [e]
  blk_simp
  rw [after0_9]
  frame_out
  exact (Block.pass1_adj_apply _ _).trans (congrArg (· * _) (blk_adj V c t r k))

end Cert.Sage.Arrays

end
-- ==== Proof.Arrays2.lean ====
/-
  What the array the second pass writes holds at the end of it, as a function of what the arrays hold before the pass.
  The pass writes 25 blocks of 400 rows, which tile the 10000 rows.
-/
module

public import proofs.«01_k».proof.Proof.Arrays

@[expose] public section

set_option maxRecDepth 16384

noncomputable section

open Idealize.ShloMosaic Idealize.ShloMosaic.TcCoe
open Idealize.ShloMosaic.Pipeline (Dat)

namespace Cert.Sage.Arrays2

open Cert.KernelIdeal Cert.KernelIdeal.Gen
open Cert.Sage.Arrays (origin)

variable (V : (c : Dev nD) → (b : Ref sig .tc) → Buf (Elt Ideal) ((c : Thread nD τ).loc b))

/-! ## Where a block's rows lie -/

/-- Row `r` of block `t`, among all rows. -/
def row (t : Fin cfg1.N) (r : Fin 400) : Fin 10000 :=
  ⟨t.val * 400 + r.val, by have := t.isLt; have hN : cfg1.N = 25 := N_1; omega⟩

/-- The row-blocked windows are at block `t` at point `t`: the adjacency rows, the hidden rows, the result rows. -/
theorem idx1_rows (t : Fin cfg1.N) : win1_0.index t = ![t.val, 0] ∧ win1_2.index t = ![t.val, 0] ∧ win1_9.index t = ![t.val, 0] :=
  (by decide +kernel : ∀ t : Fin grid1.N,
    win1_0.index t = ![t.val, 0] ∧ win1_2.index t = ![t.val, 0] ∧ win1_9.index t = ![t.val, 0]) t
/-- The windows on a whole array stay at its first and only block. -/
theorem idx1_whole (t : Fin cfg1.N) : win1_1.index t = ![0, 0] ∧ win1_3.index t = ![0, 0] ∧ win1_4.index t = ![0, 0]
    ∧ win1_5.index t = ![0, 0] ∧ win1_6.index t = ![0, 0] ∧ win1_7.index t = ![0, 0] ∧ win1_8.index t = ![0, 0] :=
  (by decide +kernel : ∀ t : Fin grid1.N, win1_1.index t = ![0, 0] ∧ win1_3.index t = ![0, 0] ∧ win1_4.index t = ![0, 0]
    ∧ win1_5.index t = ![0, 0] ∧ win1_6.index t = ![0, 0] ∧ win1_7.index t = ![0, 0] ∧ win1_8.index t = ![0, 0]) t

/-! ## The blocks the second pass reads -/

/-- The block of scaled adjacency rows. -/
theorem blk_adj (c : Dev nD) (t : Fin cfg1.N) (r : Fin 400) (k : Fin 10000) :
    iblk1 V c 0 t (ix2 r k) = V c main_call0_v5_2 (ix2 (row t r) k) := by
  blk_ext! [iblk1, row, (idx1_rows t).1]
/-- All scaled hidden rows. -/
theorem blk_all (c : Dev nD) (t : Fin cfg1.N) (k : Fin 10000) (l : Fin 128) :
    iblk1 V c 1 t (ix2 k l) = V c main_call0_v5_1 (ix2 k l) := by
  blk_ext! [iblk1, (idx1_whole t).1]
/-- The block of hidden rows. -/
theorem blk_own (c : Dev nD) (t : Fin cfg1.N) (r : Fin 400) (l : Fin 128) :
    iblk1 V c 2 t (ix2 r l) = V c main_call0_v5_0 (ix2 (row t r) l) := by
  blk_ext! [iblk1, row, (idx1_rows t).2.1]
/-- The matrix the own rows meet. -/
theorem blk_Ws (c : Dev nD) (t : Fin cfg1.N) (l : Fin 128) (j : Fin 64) :
    iblk1 V c 3 t (ix2 l j) = V c main_arg6 (ix2 l j) := by
  blk_ext! [iblk1, (idx1_whole t).2.1]
/-- Its bias row. -/
theorem blk_bs (c : Dev nD) (t : Fin cfg1.N) (j : Fin 64) :
    iblk1 V c 4 t (ix2 0 j) = V c main_call0_v2 (ix2 0 j) := by
  blk_ext! [iblk1, (idx1_whole t).2.2.1]
/-- The matrix the neighbour sums meet. -/
theorem blk_Wn (c : Dev nD) (t : Fin cfg1.N) (l : Fin 128) (j : Fin 64) :
    iblk1 V c 5 t (ix2 l j) = V c main_arg8 (ix2 l j) := by
  blk_ext! [iblk1, (idx1_whole t).2.2.2.1]
/-- Its bias row. -/
theorem blk_bn (c : Dev nD) (t : Fin cfg1.N) (j : Fin 64) :
    iblk1 V c 6 t (ix2 0 j) = V c main_call0_v3 (ix2 0 j) := by
  blk_ext! [iblk1, (idx1_whole t).2.2.2.2.1]
/-- The last matrix. -/
theorem blk_Wf (c : Dev nD) (t : Fin cfg1.N) (l : Fin 128) (j : Fin 64) :
    iblk1 V c 7 t (ix2 l j) = V c main_arg10 (ix2 l j) := by
  blk_ext! [iblk1, (idx1_whole t).2.2.2.2.2.1]
/-- Its bias row. -/
theorem blk_bf (c : Dev nD) (t : Fin cfg1.N) (j : Fin 64) :
    iblk1 V c 8 t (ix2 0 j) = V c main_call0_v4 (ix2 0 j) := by
  blk_ext! [iblk1, (idx1_whole t).2.2.2.2.2.2]

/-! ## The array the second pass writes -/

/-- The matrix the neighbour sums meet, from the arrays before the pass. -/
def neighbourWeights (c : Dev nD) : Fin 128 → Fin 64 → EReal := fun l j => V c main_arg8 (ix2 l j)

/-- Row `r` of the result, from the arrays before the second pass. -/
def resultRow (c : Dev nD) (r : Fin 10000) : Fin 64 → EReal :=
  affineRow (sageRow (fun l => V c main_call0_v5_0 (ix2 r l))
      (sumRows (fun k => V c main_call0_v5_2 (ix2 r k)) (fun k l => V c main_call0_v5_1 (ix2 k l)))
      (fun l j => V c main_arg6 (ix2 l j)) (fun j => V c main_call0_v2 (ix2 0 j))
      (fun l j => neighbourWeights V c l j * Ideal.ofBits .f32 0x34800000#32) (fun j => V c main_call0_v3 (ix2 0 j)))
    (fun l j => V c main_arg10 (ix2 l j)) (fun j => V c main_call0_v4 (ix2 0 j))

/-- The result, as written. -/
theorem result_arr (c : Dev nD) :
    (dat1 V c).arrAt 9 cfg1.N = fun i : S10000x64.Idx => resultRow V c (i 0) (i 1) := by
  refine (dat1 V c).arrAt_eq_of_covers 9 _ (by decide +kernel) fun t hf y => ?_
  obtain ⟨r, j, rfl⟩ : ∃ (r : Fin 400) (j : Fin 64), y = ix2 r j := ⟨y 0, y 1, eq_ix2 y⟩
  have e : ((cfg1.win 9).blk t).view.emb (ix2 r j) = ix2 (row t r) j := by blk_ext [row, (idx1_rows t).2.2]
  rw [e]
  blk_simp
  rw [after1_9]
  frame_out
  refine (Block.pass2_apply _ _ _ _ _ _ _ _ _ r j).trans ?_
  simp only [blk_adj, blk_own, blk_all, blk_Ws, blk_bs, blk_Wn, blk_bn, blk_Wf, blk_bf]
  rfl

end Cert.Sage.Arrays2

end
-- ==== Proof.KernelValue.lean ====
/-
  The kernel's result array, as a function of the twelve arguments: the contents of the arrays are followed through
  @main — the biases are first laid out as rows, then the two passes run.
-/
module

public import proofs.«01_k».proof.Proof.Arrays2
public import Idealize.ShloMosaic.Lib.StableHlo.Run

@[expose] public section

set_option maxRecDepth 16384

noncomputable section

open Idealize.ShloMosaic Idealize.ShloMosaic.TcCoe Idealize.ShloMosaic.StableHlo

namespace Cert.Sage.KernelValue

open Cert.KernelIdeal Cert.KernelIdeal.Gen
open Cert.Sage.Arrays (adjRow hiddenRow)
open Cert.Sage.Arrays2 (resultRow neighbourWeights)

variable (m : (ℓ : Loc nD τ sig) → Buf (Elt Ideal) ℓ) (ρ : Dev nD → PrngReg)

/-! ## The biases, laid out as rows before the passes -/

/-- A vector of 64 entries laid out as one row keeps its entries. -/
theorem asRow_apply (b : FVec Ideal S64 .f32) (j : Fin 64) : shapeCast S1x64 b shapeCasts_S64_S1x64 (ix2 0 j) = b (ix1 j) := by
  pointwise

/-- The first layer's bias for the own rows. -/
theorem bias_1s (c : Dev nD) (j : Fin 64) : V1 m ρ c main_call0_v0 (ix2 0 j) = m ((c : Thread nD τ).loc main_arg3) (ix1 j) := by
  refine (congrFun (show V1 m ρ c main_call0_v0 = shapeCast S1x64 (m ((c : Thread nD τ).loc main_arg3)) shapeCasts_S64_S1x64 from ?_) _).trans
    (asRow_apply _ j)
  simp only [V1, W1, hostOps0]
  after_results_simp <;> rfl

/-- The first layer's bias for the neighbour sums. -/
theorem bias_1n (c : Dev nD) (j : Fin 64) : V1 m ρ c main_call0_v1 (ix2 0 j) = m ((c : Thread nD τ).loc main_arg5) (ix1 j) := by
  refine (congrFun (show V1 m ρ c main_call0_v1 = shapeCast S1x64 (m ((c : Thread nD τ).loc main_arg5)) shapeCasts_S64_S1x64 from ?_) _).trans
    (asRow_apply _ j)
  simp only [V1, W1, hostOps0]
  after_results_simp <;> rfl

/-- The second layer's bias for the own rows: the first pass leaves it alone. -/
theorem bias_2s (c : Dev nD) (j : Fin 64) : V2 m ρ c main_call0_v2 (ix2 0 j) = m ((c : Thread nD τ).loc main_arg7) (ix1 j) := by
  refine (congrFun (show V2 m ρ c main_call0_v2 = shapeCast S1x64 (m ((c : Thread nD τ).loc main_arg7)) shapeCasts_S64_S1x64 from
    (W2_of m ρ c main_call0_v2 (by decide +kernel)).trans ?_) _).trans (asRow_apply _ j)
  simp only [W1, hostOps0]
  after_results_simp <;> rfl

/-- The second layer's bias for the neighbour sums. -/
theorem bias_2n (c : Dev nD) (j : Fin 64) : V2 m ρ c main_call0_v3 (ix2 0 j) = m ((c : Thread nD τ).loc main_arg9) (ix1 j) := by
  refine (congrFun (show V2 m ρ c main_call0_v3 = shapeCast S1x64 (m ((c : Thread nD τ).loc main_arg9)) shapeCasts_S64_S1x64 from
    (W2_of m ρ c main_call0_v3 (by decide +kernel)).trans ?_) _).trans (asRow_apply _ j)
  simp only [W1, hostOps0]
  after_results_simp <;> rfl

/-- The last product's bias. -/
theorem bias_f (c : Dev nD) (j : Fin 64) : V2 m ρ c main_call0_v4 (ix2 0 j) = m ((c : Thread nD τ).loc main_arg11) (ix1 j) := by
  refine (congrFun (show V2 m ρ c main_call0_v4 = shapeCast S1x64 (m ((c : Thread nD τ).loc main_arg11)) shapeCasts_S64_S1x64 from
    (W2_of m ρ c main_call0_v4 (by decide +kernel)).trans ?_) _).trans (asRow_apply _ j)
  simp only [W1, hostOps0]
  after_results_simp <;> rfl

/-! ## The arrays between the passes -/

/-- The adjacency matrix, as launched. -/
def adj (c : Dev nD) : Fin 10000 → Fin 10000 → EReal := fun r k => m ((c : Thread nD τ).loc main_arg1) (ix2 r k)

/-- The first hidden layer, from the arguments. -/
def layer1 (c : Dev nD) : Fin 10000 → Fin 128 → EReal :=
  sageLayer (adj m c) (fun k l => m ((c : Thread nD τ).loc main_arg0) (ix2 k l))
    (fun l j => m ((c : Thread nD τ).loc main_arg2) (ix2 l j)) (fun j => m ((c : Thread nD τ).loc main_arg3) (ix1 j))
    (fun l j => m ((c : Thread nD τ).loc main_arg4) (ix2 l j)) (fun j => m ((c : Thread nD τ).loc main_arg5) (ix1 j))

/-- The first pass finds the adjacency matrix as launched. -/
theorem adjRow_V1 (c : Dev nD) : adjRow (V1 m ρ) c = adj m c := by
  funext r k
  exact congrFun (W1_args m ρ c main_arg1 (by decide)) (ix2 r k)

/-- The first pass's hidden rows are the first hidden layer. -/
theorem hiddenRow_V1 (c : Dev nD) : hiddenRow (V1 m ρ) c = layer1 m c := by
  unfold hiddenRow layer1
  rw [adjRow_V1, show (fun j => V1 m ρ c main_call0_v0 (ix2 0 j)) = _ from funext (bias_1s m ρ c),
    show (fun j => V1 m ρ c main_call0_v1 (ix2 0 j)) = _ from funext (bias_1n m ρ c), show V1 m ρ c main_arg0 = m ((c : Thread nD τ).loc main_arg0) from W1_args m ρ c main_arg0 (by decide),
    show V1 m ρ c main_arg2 = m ((c : Thread nD τ).loc main_arg2) from W1_args m ρ c main_arg2 (by decide),
    show V1 m ρ c main_arg4 = m ((c : Thread nD τ).loc main_arg4) from W1_args m ρ c main_arg4 (by decide)]

/-- The second pass finds the first hidden layer. -/
theorem hidden_V2 (c : Dev nD) (r : Fin 10000) (l : Fin 128) : V2 m ρ c main_call0_v5_0 (ix2 r l) = layer1 m c r l :=
  (congrFun ((W2_arr m ρ c 7).trans (Arrays.hidden_arr (V1 m ρ) c)) (ix2 r l)).trans
    (congrFun (congrFun (hiddenRow_V1 m ρ c) r) l)

/-- The second pass finds the first hidden layer scaled by 64. -/
theorem hidden_scaled_V2 (c : Dev nD) (r : Fin 10000) (l : Fin 128) :
    V2 m ρ c main_call0_v5_1 (ix2 r l) = layer1 m c r l * Ideal.ofBits .f32 0x42800000#32 :=
  (congrFun ((W2_arr m ρ c 8).trans (Arrays.hidden_scaled_arr (V1 m ρ) c)) (ix2 r l)).trans
    (congrArg (· * _) (congrFun (congrFun (hiddenRow_V1 m ρ c) r) l))

/-- The second pass finds the adjacency matrix scaled by 65536. -/
theorem adj_scaled_V2 (c : Dev nD) (r k : Fin 10000) :
    V2 m ρ c main_call0_v5_2 (ix2 r k) = adj m c r k * Ideal.ofBits .f32 0x47800000#32 :=
  (congrFun ((W2_arr m ρ c 9).trans (Arrays.adj_scaled_arr (V1 m ρ) c)) (ix2 r k)).trans
    (congrArg (· * _) (congrFun (congrFun (adjRow_V1 m ρ c) r) k))

/-! ## The result -/

/-- The network of the launched arguments, as an array. -/
def net (c : Dev nD) : Buf (Elt Ideal) ((c : Thread nD τ).loc main_v0) := fun i : S10000x64.Idx =>
  sageNet (fun k l => m ((c : Thread nD τ).loc main_arg0) (ix2 k l)) (adj m c)
    (fun l j => m ((c : Thread nD τ).loc main_arg2) (ix2 l j)) (fun j => m ((c : Thread nD τ).loc main_arg3) (ix1 j))
    (fun l j => m ((c : Thread nD τ).loc main_arg4) (ix2 l j)) (fun j => m ((c : Thread nD τ).loc main_arg5) (ix1 j))
    (fun l j => m ((c : Thread nD τ).loc main_arg6) (ix2 l j)) (fun j => m ((c : Thread nD τ).loc main_arg7) (ix1 j))
    (fun l j => m ((c : Thread nD τ).loc main_arg8) (ix2 l j)) (fun j => m ((c : Thread nD τ).loc main_arg9) (ix1 j))
    (fun l j => m ((c : Thread nD τ).loc main_arg10) (ix2 l j)) (fun j => m ((c : Thread nD τ).loc main_arg11) (ix1 j))
    (i 0) (i 1)

/-- The second pass's result rows are the network's: what the first pass scaled, the second scales back. -/
theorem resultRow_V2 (c : Dev nD) (r : Fin 10000) (j : Fin 64) : resultRow (V2 m ρ) c r j = net m c (ix2 r j) := by
  unfold resultRow sageRow neighbourWeights
  rw [show (fun j => V2 m ρ c main_call0_v2 (ix2 0 j)) = _ from funext (bias_2s m ρ c),
    show (fun j => V2 m ρ c main_call0_v3 (ix2 0 j)) = _ from funext (bias_2n m ρ c),
    show (fun j => V2 m ρ c main_call0_v4 (ix2 0 j)) = _ from funext (bias_f m ρ c),
    show (fun l => V2 m ρ c main_call0_v5_0 (ix2 r l)) = _ from funext (hidden_V2 m ρ c r),
    show (fun k l => V2 m ρ c main_call0_v5_1 (ix2 k l)) = _ from funext fun k => funext (hidden_scaled_V2 m ρ c k),
    show (fun k => V2 m ρ c main_call0_v5_2 (ix2 r k)) = _ from funext (adj_scaled_V2 m ρ c r),
    show V2 m ρ c main_arg6 = m ((c : Thread nD τ).loc main_arg6) from W2_args m ρ c main_arg6 (by decide),
    show V2 m ρ c main_arg8 = m ((c : Thread nD τ).loc main_arg8) from W2_args m ρ c main_arg8 (by decide),
    show V2 m ρ c main_arg10 = m ((c : Thread nD τ).loc main_arg10) from W2_args m ρ c main_arg10 (by decide),
    affineRow_scaled (adj m c r) (layer1 m c) (fun l j => m ((c : Thread nD τ).loc main_arg8) (ix2 l j))]
  rfl

/-- The kernel's result array at the end of @main is the network of the launched arguments. -/
theorem result_net (c : Dev nD) : W3 m ρ c (Proc.devRef .tc main_v0) = net m c := by
  refine ((W3_arr m ρ c 9).trans (Arrays2.result_arr (V2 m ρ) c)).trans (funext fun i => ?_)
  obtain ⟨r, j, rfl⟩ : ∃ (r : Fin 10000) (j : Fin 64), i = ix2 r j := ⟨i 0, i 1, eq_ix2 i⟩
  exact resultRow_V2 m ρ c r j

end Cert.Sage.KernelValue

end
-- ==== Proof.KernelRun.lean ====
/-
  The kernel's run: every execution of @main ends with the network of the arguments in the result array and the
  arguments as launched.
-/
module

public import proofs.«01_k».proof.Proof.KernelValue
public import proofs.«01_k».proof.Proof.Gen.KernelIdeal.Frame

@[expose] public section

set_option maxRecDepth 16384

noncomputable section

namespace Cert.Sage.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Cert.Sage.KernelValue (net result_net)

local notation "𝕄" => MT nD τ sig Unit (Elt Ideal) ℕ (UR sig nD τ) ℕ

variable (m : (ℓ : Loc nD τ sig) → Buf (Elt Ideal) ℓ) (ρ : Dev nD → PrngReg)

-- the launch's implicit arguments are found by unifying its conclusion with this statement
set_option backward.isDefEq.respectTransparency.types false in
/-- Every weakly fair execution of @main terminates without a fault, with every array of the TensorCore holding what
    the fold through @main says it holds. -/
theorem ends : θ_run defs (onTc (τ := τ) (main (F := Ideal))) ⟨m, fun _ => 0, ρ⟩ (fun r => ∀ c : Dev nD,
      ∀ b ∈ Pipeline.ucRefs τ sig, r.2.mem (((c : Thread nD τ)).1, b) = W3 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => h)

/-- Every execution of @main ends with the network of the arguments in the result array, and the arguments unchanged. -/
theorem run : θ_run defs (onTc (τ := τ) (main (F := Ideal))) ⟨m, fun _ => 0, ρ⟩ (fun r => ∀ c : Dev nD,
      r.2.mem ((c.tc : Thread nD τ).loc main_v0) = net m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_v0 (by decide))).trans (result_net m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c),
     (h c _ (mem_uc main_arg7 (by decide))).trans (W3_main_arg7 m ρ c),
     (h c _ (mem_uc main_arg8 (by decide))).trans (W3_main_arg8 m ρ c),
     (h c _ (mem_uc main_arg9 (by decide))).trans (W3_main_arg9 m ρ c),
     (h c _ (mem_uc main_arg10 (by decide))).trans (W3_main_arg10 m ρ c),
     (h c _ (mem_uc main_arg11 (by decide))).trans (W3_main_arg11 m ρ c)⟩) (ends m ρ)

end Cert.Sage.KernelRun

end
-- ==== Proof.RefValue.lean ====
/-
  What the reference computes, entry by entry, in the row mathematics of Spec.lean.
-/
module

public import proofs.«01_k».proof.Proof.Spec
public import proofs.«01_k».proof.Proof.Gen.ReferenceIdeal.Run
public import Idealize.ShloMosaic.Lib.Pointwise

@[expose] public section

set_option maxRecDepth 16384

noncomputable section

open Idealize.ShloMosaic Idealize.ShloMosaic.TcCoe

namespace Cert.Sage.Ref

open Cert.ReferenceIdeal Cert.ReferenceIdeal.Gen Cert.ReferenceIdeal.Value

/-! ## The reference's steps on whole arrays -/

/-- Rows times a 128 × 64 matrix, plus a bias. -/
def affine (v : FVec Ideal S10000x128 .f32) (W : FVec Ideal S128x64 .f32) (b : FVec Ideal S64 .f32) : FVec Ideal S10000x64 .f32 :=
  addf (Host.dotGeneral dot_S10000x128_S128x64_S10000x64_1_0_0_1_n_n none v W)
    (broadcastInDim S10000x64 ![0, 1] bcast_S1x64_S10000x64_0_1 (broadcastInDim S1x64 ![1] bcast_S64_S1x64_1 b))

/-- The neighbour sums: the adjacency matrix times the rows. -/
def sums (A : FVec Ideal S10000x10000 .f32) (H : FVec Ideal S10000x128 .f32) : FVec Ideal S10000x128 .f32 :=
  Host.dotGeneral dot_S10000x10000_S10000x128_S10000x128_1_0_0_1_n_n none A H

/-- Two halves side by side, negative entries replaced by zero. -/
def pair (p q : FVec Ideal S10000x64 .f32) : FVec Ideal S10000x128 .f32 :=
  maximumf (concatenate S10000x128 1 [⟨S10000x64, p⟩, ⟨S10000x64, q⟩] concatenates_S10000x64_S10000x64_S10000x128_d1)
    (broadcastInDim S10000x128 ![] bcast_S_S10000x128 (constant S_ .f32 0x00000000#32))

/-- Each row divided by its norm, the norm kept above the floor. -/
def unit (z : FVec Ideal S10000x128 .f32) : FVec Ideal S10000x128 .f32 :=
  Host.divf z (broadcastInDim S10000x128 ![0, 1] bcast_S10000x1_S10000x128_0_1
    (maximumf
      (Host.sqrt (broadcastInDim S10000x1 ![0] bcast_S10000_S10000x1_0
        (Host.reduceAdd (mulf z z) (constant S_ .f32 0x00000000#32) reducesTo_S10000x128_S10000_d1 h_S_)))
      (broadcastInDim S10000x1 ![] bcast_S_S10000x1 (constant S_ .f32 0x2B8CBCCC#32))))

/-- A hidden layer. -/
def layer (A : FVec Ideal S10000x10000 .f32) (H : FVec Ideal S10000x128 .f32) (Ws : FVec Ideal S128x64 .f32)
    (bs : FVec Ideal S64 .f32) (Wn : FVec Ideal S128x64 .f32) (bn : FVec Ideal S64 .f32) : FVec Ideal S10000x128 .f32 :=
  unit (pair (affine H Ws bs) (affine (sums A H) Wn bn))

/-- An entry of `affine`. -/
theorem affine_apply (v : FVec Ideal S10000x128 .f32) (W : FVec Ideal S128x64 .f32) (b : FVec Ideal S64 .f32)
    (r : Fin 10000) (j : Fin 64) :
    affine v W b (ix2 r j) = affineRow (fun l => v (ix2 r l)) (fun l j => W (ix2 l j)) (fun j => b (ix1 j)) j := by
  pointwise [affine, affineRow]

/-- An entry of `sums`. -/
theorem sums_apply (A : FVec Ideal S10000x10000 .f32) (H : FVec Ideal S10000x128 .f32) (r : Fin 10000) (l : Fin 128) :
    sums A H (ix2 r l) = sumRows (fun k => A (ix2 r k)) (fun k l => H (ix2 k l)) l := by
  pointwise [sums, sumRows]

/-- An entry of `pair`. -/
theorem pair_apply (p q : FVec Ideal S10000x64 .f32) (r : Fin 10000) (j : Fin 128) :
    pair p q (ix2 r j) = reluPair (fun j => p (ix2 r j)) (fun j => q (ix2 r j)) j := by
  pointwise [pair, reluPair]

/-- An entry of `unit`. -/
theorem unit_apply (z : FVec Ideal S10000x128 .f32) (r : Fin 10000) (j : Fin 128) :
    unit z (ix2 r j) = unitRow (fun j => z (ix2 r j)) j := by
  pointwise [unit, unitRow, floorNorm]

/-- An entry of a hidden layer. -/
theorem layer_apply (A : FVec Ideal S10000x10000 .f32) (H : FVec Ideal S10000x128 .f32) (Ws : FVec Ideal S128x64 .f32)
    (bs : FVec Ideal S64 .f32) (Wn : FVec Ideal S128x64 .f32) (bn : FVec Ideal S64 .f32) (r : Fin 10000) (j : Fin 128) :
    layer A H Ws bs Wn bn (ix2 r j)
      = sageLayer (fun r k => A (ix2 r k)) (fun k l => H (ix2 k l)) (fun l j => Ws (ix2 l j)) (fun j => bs (ix1 j))
          (fun l j => Wn (ix2 l j)) (fun j => bn (ix1 j)) r j := by
  simp only [layer, unit_apply, pair_apply, affine_apply, sums_apply, sageLayer, sageRow]

/-! ## The reference's result -/

/-- The reference's result is two hidden layers and a last product with a bias. -/
theorem result_eq (m : (ℓ : Loc nD τ sig) → Buf (Elt Ideal) ℓ) (c : Dev nD) :
    res_out0 m c
      = affine
          (layer (m ((c.tc : Thread nD τ).loc main_arg1))
            (layer (m ((c.tc : Thread nD τ).loc main_arg1)) (m ((c.tc : Thread nD τ).loc main_arg0))
              (m ((c.tc : Thread nD τ).loc main_arg2)) (m ((c.tc : Thread nD τ).loc main_arg3))
              (m ((c.tc : Thread nD τ).loc main_arg4)) (m ((c.tc : Thread nD τ).loc main_arg5)))
            (m ((c.tc : Thread nD τ).loc main_arg6)) (m ((c.tc : Thread nD τ).loc main_arg7))
            (m ((c.tc : Thread nD τ).loc main_arg8)) (m ((c.tc : Thread nD τ).loc main_arg9)))
          (m ((c.tc : Thread nD τ).loc main_arg10)) (m ((c.tc : Thread nD τ).loc main_arg11)) := rfl

/-- The reference's result, entry by entry, is the network's. -/
theorem result_apply (m : (ℓ : Loc nD τ sig) → Buf (Elt Ideal) ℓ) (c : Dev nD) (r : Fin 10000) (j : Fin 64) :
    res_out0 m c (ix2 r j)
      = sageNet (fun k l => m ((c.tc : Thread nD τ).loc main_arg0) (ix2 k l)) (fun r k => m ((c.tc : Thread nD τ).loc main_arg1) (ix2 r k))
          (fun l j => m ((c.tc : Thread nD τ).loc main_arg2) (ix2 l j)) (fun j => m ((c.tc : Thread nD τ).loc main_arg3) (ix1 j))
          (fun l j => m ((c.tc : Thread nD τ).loc main_arg4) (ix2 l j)) (fun j => m ((c.tc : Thread nD τ).loc main_arg5) (ix1 j))
          (fun l j => m ((c.tc : Thread nD τ).loc main_arg6) (ix2 l j)) (fun j => m ((c.tc : Thread nD τ).loc main_arg7) (ix1 j))
          (fun l j => m ((c.tc : Thread nD τ).loc main_arg8) (ix2 l j)) (fun j => m ((c.tc : Thread nD τ).loc main_arg9) (ix1 j))
          (fun l j => m ((c.tc : Thread nD τ).loc main_arg10) (ix2 l j)) (fun j => m ((c.tc : Thread nD τ).loc main_arg11) (ix1 j)) r j := by
  rw [result_eq]
  simp only [affine_apply, layer_apply]
  rfl

end Cert.Sage.Ref

end
-- ==== Proof.Equation.lean ====
/-
  The equation: where the arguments agree, the reference's result is the array the kernel leaves.
-/
module

public import proofs.«01_k».proof.Proof.KernelValue
public import proofs.«01_k».proof.Proof.RefValue

@[expose] public section

noncomputable section

open Idealize.ShloMosaic Idealize.ShloMosaic.TcCoe

namespace Cert.Sage.Equation

/-- Where the two programs are launched on the same twelve arguments, the reference's result is the kernel's. -/
theorem reference_eq_net (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.ReferenceIdeal.Value.res_out0 m' c = KernelValue.net m c := by
  obtain ⟨h0, h1, h2, h3, h4, h5, h6, h7, h8, h9, h10, h11⟩ := h
  funext i
  obtain ⟨r, j, rfl⟩ : ∃ (r : Fin 10000) (j : Fin 64), i = ix2 r j := ⟨i 0, i 1, eq_ix2 i⟩
  refine (Ref.result_apply m' c r j).trans ?_
  rw [h0, h1, h2, h3, h4, h5, h6, h7, h8, h9, h10, h11]
  rfl

end Cert.Sage.Equation

end
-- ==== Proof.lean ====
/-
  The kernel and its reference: the five claims of `Cert.Claim`, each from the module that proves it.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.KernelRun
public import proofs.«01_k».proof.Proof.Equation
public import Idealize.ShloMosaic.Lib.Quiescent

@[expose] public section

noncomputable section

namespace Cert.Proof

open Idealize.ShloMosaic Idealize.SL.Sem

/-- All five claims. -/
theorem claim : Cert.Claim :=
  ⟨Cert.Kernel.Gen.facts, Cert.KernelIdeal.Gen.facts, Cert.ReferenceIdeal.Gen.facts,
    fun m ρ _ => Cert.Kernel.Gen.frame m ρ,
    fun m ρ _ => Cert.KernelIdeal.Gen.frame m ρ,
    fun m ρ _ => (θ_run Cert.ReferenceIdeal.defs _ _).mono
      (fun r h => ⟨fun c => (h c).2, sem_eq_zero_of_no_sems (by decide) r.2⟩) (Cert.ReferenceIdeal.Value.run (F := Ideal) m ρ),
    trivial,
    fun m ρ m' ρ' _ hagree => ⟨Cert.Sage.KernelValue.net m, Cert.Sage.KernelRun.run m ρ,
      (θ_run Cert.ReferenceIdeal.defs _ _).mono
        (fun r h c => ⟨(h c).1.trans (Cert.Sage.Equation.reference_eq_net m m' c (hagree c)), (h c).2⟩)
        (Cert.ReferenceIdeal.Value.run (F := Ideal) m' ρ')⟩⟩

end Cert.Proof

end
